-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x4096 : Shape := ⟨3, ![8, 4096, 4096]⟩
abbrev S32 : Shape := ⟨1, ![32]⟩
abbrev S8x4096x1024 : Shape := ⟨3, ![8, 4096, 1024]⟩
abbrev S8 : Shape := ⟨1, ![8]⟩
abbrev S8x1024x4096 : Shape := ⟨3, ![8, 1024, 4096]⟩
abbrev S1x256x512 : Shape := ⟨3, ![1, 256, 512]⟩
abbrev S1x4096x128 : Shape := ⟨3, ![1, 4096, 128]⟩
abbrev S1x128x4096 : Shape := ⟨3, ![1, 128, 4096]⟩
abbrev S4096x256 : Shape := ⟨2, ![4096, 256]⟩
abbrev S1 : Shape := ⟨1, ![1]⟩
abbrev S1x256x128 : Shape := ⟨3, ![1, 256, 128]⟩
abbrev S256x128 : Shape := ⟨2, ![256, 128]⟩
abbrev S4096x128 : Shape := ⟨2, ![4096, 128]⟩
abbrev S256 : Shape := ⟨1, ![256]⟩
abbrev S1x256 : Shape := ⟨2, ![1, 256]⟩
abbrev S128x4096 : Shape := ⟨2, ![128, 4096]⟩
abbrev S128x256 : Shape := ⟨2, ![128, 256]⟩

abbrev nBuf : Space → Nat
  | .hbm => 8
  | .vmem => 10
  | .smem => 3
  | _ => 0

abbrev bufTy : (tb : Table) → Fin (tcTables nBuf tb) → BufTy
  | .hbm, ⟨0, _⟩ => ⟨S8x4096x4096, .fp8e4m3⟩
  | .hbm, ⟨1, _⟩ => ⟨S32, .f32⟩
  | .hbm, ⟨2, _⟩ => ⟨S8x4096x1024, .fp8e4m3⟩
  | .hbm, ⟨3, _⟩ => ⟨S8, .f32⟩
  | .hbm, ⟨4, _⟩ => ⟨S8x4096x1024, .fp8e4m3⟩
  | .hbm, ⟨5, _⟩ => ⟨S8, .f32⟩
  | .hbm, ⟨6, _⟩ => ⟨S8x1024x4096, .fp8e4m3⟩
  | .hbm, ⟨7, _⟩ => ⟨S8x4096x4096, .bf16⟩
  | .local _ .vmem, ⟨0, _⟩ => ⟨S1x256x512, .fp8e4m3⟩
  | .local _ .vmem, ⟨1, _⟩ => ⟨S1x256x512, .fp8e4m3⟩
  | .local _ .vmem, ⟨2, _⟩ => ⟨S1x4096x128, .fp8e4m3⟩
  | .local _ .vmem, ⟨3, _⟩ => ⟨S1x4096x128, .fp8e4m3⟩
  | .local _ .vmem, ⟨4, _⟩ => ⟨S1x128x4096, .fp8e4m3⟩
  | .local _ .vmem, ⟨5, _⟩ => ⟨S1x128x4096, .fp8e4m3⟩
  | .local _ .vmem, ⟨6, _⟩ => ⟨S1x256x512, .bf16⟩
  | .local _ .vmem, ⟨7, _⟩ => ⟨S1x256x512, .bf16⟩
  | .local _ .vmem, ⟨8, _⟩ => ⟨S4096x256, .f32⟩
  | .local _ .vmem, ⟨9, _⟩ => ⟨S4096x256, .fp8e4m3⟩
  | .local _ .smem, ⟨0, _⟩ => ⟨S32, .f32⟩
  | .local _ .smem, ⟨1, _⟩ => ⟨S8, .f32⟩
  | .local _ .smem, ⟨2, _⟩ => ⟨S8, .f32⟩
  | _, _ => ⟨S8x4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 8, 16], ![false, false, false]⟩

def k0_off1 (i : grid0.Coords) (c0_i32 : BitVec 32) : Fin 1 → Nat :=
  let arg1 : BitVec 32 := BitVec.ofNat 32 (i 1).val
  let c4_i32 : BitVec 32 := 4#32
  let v0 : BitVec 32 := Scalar.muli arg1 c4_i32
  let v1 : BitVec 32 := Scalar.addi v0 c0_i32
  let v2 : Index := Scalar.indexCast v1
  ![v2.toNat]
def k0_off2 (i : grid0.Coords) : Fin 1 → Nat :=
  let arg1 : BitVec 32 := BitVec.ofNat 32 (i 1).val
  let v4 : Index := Scalar.indexCast arg1
  ![v4.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .smem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x256x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4096x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x128x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S8x4096x4096 : Shape := ⟨3, ![8, 4096, 4096]⟩
abbrev S32 : Shape := ⟨1, ![32]⟩
abbrev S8x4096x1024 : Shape := ⟨3, ![8, 4096, 1024]⟩
abbrev S8 : Shape := ⟨1, ![8]⟩
abbrev S8x4096x8x4x128 : Shape := ⟨5, ![8, 4096, 8, 4, 128]⟩
abbrev S8x4096x8x128 : Shape := ⟨4, ![8, 4096, 8, 128]⟩
abbrev S8x4 : Shape := ⟨2, ![8, 4]⟩
abbrev S8x1 : Shape := ⟨2, ![8, 1]⟩
abbrev S1x8x4x1x1 : Shape := ⟨5, ![1, 8, 4, 1, 1]⟩
abbrev S1x1x8x1x1 : Shape := ⟨5, ![1, 1, 8, 1, 1]⟩
abbrev S8x8x4096x4096x4 : Shape := ⟨5, ![8, 8, 4096, 4096, 4]⟩
abbrev S8x8x4x4096x4096 : Shape := ⟨5, ![8, 8, 4, 4096, 4096]⟩
abbrev S8x8x4x4096 : Shape := ⟨4, ![8, 8, 4, 4096]⟩
abbrev S8x8x4x4096x1 : Shape := ⟨5, ![8, 8, 4, 4096, 1]⟩
abbrev S8x8x128x4x4096 : Shape := ⟨5, ![8, 8, 128, 4, 4096]⟩
abbrev S8x4096x8x4x1 : Shape := ⟨5, ![8, 4096, 8, 4, 1]⟩

abbrev nBuf : Space → Nat
  | .hbm => 7
  | .vmem => 7
  | .smem => 0
  | _ => 0

abbrev bufTy : (tb : Table) → Fin (tcTables nBuf tb) → BufTy
  | .hbm, ⟨0, _⟩ => ⟨S8x4096x4096, .fp8e4m3⟩
  | .hbm, ⟨1, _⟩ => ⟨S32, .f32⟩
  | .hbm, ⟨2, _⟩ => ⟨S8x4096x1024, .fp8e4m3⟩
  | .hbm, ⟨3, _⟩ => ⟨S8, .f32⟩
  | .hbm, ⟨4, _⟩ => ⟨S8x4096x1024, .fp8e4m3⟩
  | .hbm, ⟨5, _⟩ => ⟨S8, .f32⟩
  | .hbm, ⟨6, _⟩ => ⟨S8x4096x4096, .bf16⟩
  | .local _ .vmem, ⟨0, _⟩ => ⟨S8x4096x4096, .fp8e4m3⟩
  | .local _ .vmem, ⟨1, _⟩ => ⟨S32, .f32⟩
  | .local _ .vmem, ⟨2, _⟩ => ⟨S8x4096x1024, .fp8e4m3⟩
  | .local _ .vmem, ⟨3, _⟩ => ⟨S8, .f32⟩
  | .local _ .vmem, ⟨4, _⟩ => ⟨S8x4096x1024, .fp8e4m3⟩
  | .local _ .vmem, ⟨5, _⟩ => ⟨S8, .f32⟩
  | .local _ .vmem, ⟨6, _⟩ => ⟨S8x4096x4096, .bf16⟩
  | _, _ => ⟨S8x4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x4096x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Consts.lean ====
/- The float constants that the two programs spell, as the extended reals they denote. The scale `0x3DB504F3` (the
   rounding of 1/√128) stands on both sides and stays opaque. -/
module

public import Idealize.ShloMosaic.PureOps.Ideal

@[expose] public section

noncomputable section

namespace Cert.Consts

open Idealize.ShloMosaic

/-- The scale of a code, 256. -/
theorem ofBits_256 : Ideal.ofBits .f32 0x43800000#32 = ((256 : ℝ) : EReal) := by
  simp [Ideal.ofBits, Ideal.ieee, -EReal.coe_mul]; norm_num

/-- The inverse of the codes' scale, 1/256. -/
theorem ofBits_inv256 : Ideal.ofBits .f32 0x3B800000#32 = ((1 / 256 : ℝ) : EReal) := by
  simp [Ideal.ofBits, Ideal.ieee, -EReal.coe_mul]; norm_num

/-- The kernel's shift of the exponent, 8. -/
theorem ofBits_8 : Ideal.ofBits .f32 0x41000000#32 = ((8 : ℝ) : EReal) := by
  simp [Ideal.ofBits, Ideal.ieee, -EReal.coe_mul]; norm_num

/-- The largest code, 448. -/
theorem ofBits_448 : Ideal.ofBits .f32 0x43E00000#32 = ((448 : ℝ) : EReal) := by
  simp [Ideal.ofBits, Ideal.ieee, -EReal.coe_mul]; norm_num

/-- The smallest code, −448. -/
theorem ofBits_neg448 : Ideal.ofBits .f32 0xC3E00000#32 = ((-448 : ℝ) : EReal) := by
  simp [Ideal.ofBits, Ideal.ieee, -EReal.coe_mul]; norm_num

/-- A maximum starts at −∞. -/
theorem ofBits_neg_inf : Ideal.ofBits .f32 0xFF800000#32 = (⊥ : EReal) := by
  simp [Ideal.ofBits, Ideal.ieee]

end Cert.Consts

end
-- ==== Proof.Softmax.lean ====
/- The mathematics of one result: attention weights against the row's maximum, their codes, the weighted sum of the values.
   The kernel takes its weights as powers of two of scores multiplied by 1/log 2, with 8 added to the exponent; on every
   extended real they are 256 times the reference's exponentials (`kweight_eq`), so both programs compute `attend`
   (`kattend_eq`). -/
module

public import Idealize.ShloMosaic.PureOps.Ideal

@[expose] public section

noncomputable section

namespace Cert.Softmax

open Idealize.ShloMosaic

variable {n : ℕ}

/-- The weight of position `s` in a row with raw scores `r` and score scale `a`, as the reference takes it: the exponential
    of the scaled score less the row's maximum. -/
def weight (r : Fin n → EReal) (a : EReal) (s : Fin n) : EReal :=
  Ideal.exp (r s * a - Finset.univ.fold max ⊥ fun s' => r s' * a)

/-- A scaled weight clipped to the codes' range. -/
def code (p : EReal) : EReal := min ((448 : ℝ) : EReal) (max ((-448 : ℝ) : EReal) p)

/-- One result: the codes of the weights times the values `v`, scaled by the value scale `w` and 1/256, over the sum of the
    weights. -/
def attend (r : Fin n → EReal) (a w : EReal) (v : Fin n → EReal) : EReal :=
  Ideal.div ((∑ s, v s * code (weight r a s * ((256 : ℝ) : EReal))) * (w * ((1 / 256 : ℝ) : EReal))) (∑ s, weight r a s)

/-- The weight as the kernel takes it: a power of two, the scores multiplied by 1/log 2 and 8 added to the exponent. -/
def kweight (r : Fin n → EReal) (a : EReal) (s : Fin n) : EReal :=
  Ideal.exp2 (r s * (a * (((Real.log 2)⁻¹ : ℝ) : EReal))
    - ((Finset.univ.fold max ⊥ fun s' => r s' * (a * (((Real.log 2)⁻¹ : ℝ) : EReal))) - ((8 : ℝ) : EReal)))

/-- One result as the kernel takes it. -/
def kattend (r : Fin n → EReal) (a w : EReal) (v : Fin n → EReal) : EReal :=
  Ideal.div ((∑ s, v s * code (kweight r a s)) * (w * ((1 / 256 : ℝ) : EReal)))
    ((∑ s, kweight r a s) * ((1 / 256 : ℝ) : EReal))

/-- 1/log 2 is positive. -/
theorem inv_log_pos : (0 : ℝ) < (Real.log 2)⁻¹ := inv_pos.mpr (Real.log_pos (by norm_num))

/-- A maximum of scores times a positive real is the maximum times that real. -/
theorem fold_max_mul {ι : Type} (t : Finset ι) (f : ι → EReal) (L : ℝ) (hL : 0 < L) :
    (t.fold max ⊥ fun s => f s * (L : EReal)) = t.fold max ⊥ f * (L : EReal) := by
  classical
  have hmono : Monotone fun x : EReal => x * (L : EReal) := fun x y h =>
    mul_le_mul_of_nonneg_right h (by exact_mod_cast hL.le)
  induction t using Finset.induction_on with
  | empty => simp [EReal.bot_mul_coe_of_pos hL]
  | insert s t hs ih => rw [Finset.fold_insert hs, Finset.fold_insert hs, ih]; exact (hmono.map_max).symm

/-- On every pair of extended reals: two to the (scaled) difference plus 8 is 256 times the exponential of the difference. -/
theorem exp2_shift (x M : EReal) :
    Ideal.exp2 (x * (((Real.log 2)⁻¹ : ℝ) : EReal) - (M * (((Real.log 2)⁻¹ : ℝ) : EReal) - ((8 : ℝ) : EReal)))
      = Ideal.exp (x - M) * ((256 : ℝ) : EReal) := by
  have hL := inv_log_pos
  have h256 : (0 : ℝ) < 256 := by norm_num
  induction M with
  | bot =>
    induction x with
    | bot => simp [EReal.bot_mul_coe_of_pos hL]
    | coe x =>
      rw [EReal.bot_mul_coe_of_pos hL, ← EReal.coe_mul, EReal.bot_sub, EReal.coe_sub_bot, EReal.coe_sub_bot, Ideal.exp2_top,
        Ideal.exp_top, EReal.top_mul_coe_of_pos h256]
    | top =>
      rw [EReal.bot_mul_coe_of_pos hL, EReal.top_mul_coe_of_pos hL, EReal.bot_sub, EReal.top_sub_bot, Ideal.exp2_top,
        Ideal.exp_top, EReal.top_mul_coe_of_pos h256]
  | coe M =>
    induction x with
    | bot => rw [EReal.bot_mul_coe_of_pos hL, EReal.bot_sub, EReal.bot_sub, Ideal.exp2_bot, Ideal.exp_bot, zero_mul]
    | coe x =>
      rw [← EReal.coe_mul, ← EReal.coe_mul, ← EReal.coe_sub, ← EReal.coe_sub, ← EReal.coe_sub, Ideal.exp2_coe, Ideal.exp_coe,
        ← EReal.coe_mul, EReal.coe_eq_coe_iff, Real.rpow_eq_pow, Real.rpow_def_of_pos (by norm_num)]
      have hlog : Real.log 2 ≠ 0 := (Real.log_pos (by norm_num)).ne'
      rw [show Real.log 2 * (x * (Real.log 2)⁻¹ - (M * (Real.log 2)⁻¹ - 8)) = (x - M) + Real.log 2 * 8 from by field_simp; ring,
        Real.exp_add, ← Real.rpow_def_of_pos (by norm_num)]
      norm_num
    | top =>
      rw [EReal.top_mul_coe_of_pos hL, ← EReal.coe_mul, ← EReal.coe_sub, EReal.top_sub_coe, EReal.top_sub_coe, Ideal.exp2_top,
        Ideal.exp_top, EReal.top_mul_coe_of_pos h256]
  | top =>
    rw [EReal.top_mul_coe_of_pos hL, EReal.top_sub_coe, EReal.sub_top, EReal.sub_top, Ideal.exp2_bot, Ideal.exp_bot, zero_mul]

/-- The kernel's weight is 256 times the reference's. -/
theorem kweight_eq (r : Fin n → EReal) (a : EReal) (s : Fin n) : kweight r a s = weight r a s * ((256 : ℝ) : EReal) := by
  unfold kweight weight
  simp only [← mul_assoc]
  rw [fold_max_mul _ _ _ inv_log_pos, exp2_shift]

/-- A sum times a positive real is the sum of the products, infinities included. -/
theorem sum_mul_coe {ι : Type} (t : Finset ι) (f : ι → EReal) (c : ℝ) (hc : 0 < c) :
    (∑ s ∈ t, f s) * (c : EReal) = ∑ s ∈ t, f s * (c : EReal) := by
  classical
  induction t using Finset.induction_on with
  | empty => simp
  | insert s t hs ih =>
    rw [Finset.sum_insert hs, Finset.sum_insert hs, ← ih, mul_comm, mul_comm (f s), mul_comm (∑ s ∈ t, f s)]
    exact EReal.left_distrib_of_nonneg_of_ne_top (by exact_mod_cast hc.le) (EReal.coe_ne_top _) _ _

/-- Both programs compute the same result from the same scores, scales and values. -/
theorem kattend_eq (r : Fin n → EReal) (a w : EReal) (v : Fin n → EReal) : kattend r a w v = attend r a w v := by
  unfold kattend attend
  simp only [kweight_eq]
  congr 1
  rw [sum_mul_coe _ _ _ (by norm_num)]
  refine Finset.sum_congr rfl fun s _ => ?_
  rw [mul_assoc, ← EReal.coe_mul, show (256 : ℝ) * (1 / 256) = 1 from by norm_num, EReal.coe_one, mul_one]

end Cert.Softmax

end
-- ==== Proof.Head.lean ====
/- What one query head of a block computes. The kernel's body repeats one computation for the four query heads of a key/value
   head. `head` is that computation as the body writes it for its first head; the other three are the same function of their
   own operands (`head1_eq` … `head3_eq`), and `head_apply` reads it at an index, once for all four. -/
module

public import proofs.«01_k».proof.Proof.Gen.KernelIdeal.Skeleton
public import proofs.«01_k».proof.Proof.Consts
public import proofs.«01_k».proof.Proof.Softmax
public import Idealize.ShloMosaic.Lib.Pointwise

@[expose] public section

set_option maxRecDepth 16384

noncomputable section

namespace Cert.KernelIdeal.Head

open Idealize.ShloMosaic Cert.KernelIdeal Cert.KernelIdeal.Gen Cert.Softmax

/-- One query head of a block: from its query scale `q`, key scale `ks`, value scale `vs`, query rows `X`, keys `K` and
    transposed values `V`. -/
def head (q ks vs : Elt Ideal .f32) (X : Vec Ideal S1x256x128 .fp8e4m3) (K : Vec Ideal S1x4096x128 .fp8e4m3)
    (V : Vec Ideal S1x128x4096 .fp8e4m3) : FVec Ideal S1x256x128 .bf16 :=
  k0_pay8 (k0_pay5 q ks X K (k0_pay3 q ks X K)) V (k0_pay7 (k0_pay6 q ks X K (k0_pay3 q ks X K))) vs

/-- The first head, as the kernel's text names its parts. -/
theorem head0_eq (q ks vs : Elt Ideal .f32) (X : Vec Ideal S1x256x128 .fp8e4m3) (K : Vec Ideal S1x4096x128 .fp8e4m3)
    (V : Vec Ideal S1x128x4096 .fp8e4m3) :
    k0_pay8 (k0_pay5 q ks X K (k0_pay3 q ks X K)) V (k0_pay7 (k0_pay6 q ks X K (k0_pay3 q ks X K))) vs
      = head q ks vs X K V := rfl

/-- The second head is the same function. -/
theorem head1_eq (q ks vs : Elt Ideal .f32) (X : Vec Ideal S1x256x128 .fp8e4m3) (K : Vec Ideal S1x4096x128 .fp8e4m3)
    (V : Vec Ideal S1x128x4096 .fp8e4m3) :
    k0_pay16 (k0_pay15 (k0_pay9 X K) (k0_pay10 q ks) (k0_pay12 (k0_pay9 X K) (k0_pay10 q ks)) V
      (k0_pay14 (k0_pay9 X K) (k0_pay10 q ks) (k0_pay12 (k0_pay9 X K) (k0_pay10 q ks))) vs) = head q ks vs X K V := rfl

/-- The third head is the same function. -/
theorem head2_eq (q ks vs : Elt Ideal .f32) (X : Vec Ideal S1x256x128 .fp8e4m3) (K : Vec Ideal S1x4096x128 .fp8e4m3)
    (V : Vec Ideal S1x128x4096 .fp8e4m3) :
    k0_pay23 (k0_pay20 q ks X K (k0_pay18 q ks X K)) V
      (k0_pay22 (FloatOps.ofBits .f32 0x43E00000#32) (k0_pay21 q ks X K (k0_pay18 q ks X K))) vs = head q ks vs X K V := rfl

/-- The fourth head is the same function. -/
theorem head3_eq (q ks vs : Elt Ideal .f32) (X : Vec Ideal S1x256x128 .fp8e4m3) (K : Vec Ideal S1x4096x128 .fp8e4m3)
    (V : Vec Ideal S1x128x4096 .fp8e4m3) :
    k0_pay1 (k0_pay31 (k0_pay24 q ks) (k0_pay25 X) (k0_pay26 K) (constant S4096x256 .f32 0x00000000#32)
      (k0_pay28 (k0_pay24 q ks) (k0_pay25 X) (k0_pay26 K) (constant S4096x256 .f32 0x00000000#32)) V
      (k0_pay30 (k0_pay24 q ks) (k0_pay25 X) (k0_pay26 K) (constant S4096x256 .f32 0x00000000#32)
        (k0_pay28 (k0_pay24 q ks) (k0_pay25 X) (k0_pay26 K) (constant S4096x256 .f32 0x00000000#32))) vs)
      = head q ks vs X K V := rfl

/-- The kernel's named constant is 1/log 2. -/
theorem log2_e : Named.named (F := Ideal) κ "log2_e" (φ := .f32) 0x3FB8AA3B#32 = (((Real.log 2)⁻¹ : ℝ) : EReal) :=
  IdealRules.named_const.ideal_named_scalar _ _ _ _ rfl

/-- A power of two of an extended real. -/
theorem exp2_def (x : Ideal .f32) : FloatOps.exp2 x = Ideal.exp2 x := rfl

/-- The scores of a block, already multiplied by 1/log 2. -/
theorem scores_apply (q ks : Elt Ideal .f32) (X : Vec Ideal S1x256x128 .fp8e4m3) (K : Vec Ideal S1x4096x128 .fp8e4m3)
    (s : Fin 4096) (r : Fin 256) :
    k0_pay2 q ks X K (ix2 s r) = (∑ e : Fin 128, K (ix3 0 s e) * X (ix3 0 r e))
      * (q * ks * Ideal.ofBits .f32 0x3DB504F3#32 * (((Real.log 2)⁻¹ : ℝ) : EReal)) := by
  pointwise [k0_pay2]
  simp only [log2_e]

/-- The maximum of a column of a block of scores. -/
theorem colmax_apply (U : FVec Ideal S4096x256 .f32) (r : Fin 256) :
    multiReduction .maximumf [0] S256 U 0xFF800000#32 reduces_S4096x256_S256 (.inl rfl) rfl (ix1 r)
      = Finset.univ.fold max ⊥ fun s => U (ix2 s r) := by
  pointwise
  simp only [Consts.ofBits_neg_inf]

/-- A block of powers of two against a row of maxima less 8, read at an index. -/
theorem powers_apply (U : FVec Ideal S4096x256 .f32) (M : FVec Ideal S256 .f32) (s : Fin 4096) (r : Fin 256) :
    exp2 (subf U (broadcastTo S4096x256 (subf (shapeCast S1x256 M shapeCasts_S256_S1x256)
        (broadcast S1x256 (Scalar.ofBits .f32 0x41000000#32))) broadcasts_S1x256_S4096x256)) (ix2 s r)
      = FloatOps.exp2 (F := Ideal) (φ := .f32) (U (ix2 s r) - (M (ix1 r) - Ideal.ofBits .f32 0x41000000#32)) := by
  pointwise

/-- Storing a block as it is and loading it again changes nothing. -/
theorem stored_eq (q ks : Elt Ideal .f32) (X : Vec Ideal S1x256x128 .fp8e4m3) (K : Vec Ideal S1x4096x128 .fp8e4m3) :
    k0_pay3 q ks X K = k0_pay2 q ks X K := by
  unfold k0_pay3
  generalize k0_pay2 q ks X K = U
  funext i
  pointwise

/-- The weights of a block from its scores: powers of two against each column's maximum less 8. -/
theorem powers_eq (q ks : Elt Ideal .f32) (X : Vec Ideal S1x256x128 .fp8e4m3) (K : Vec Ideal S1x4096x128 .fp8e4m3)
    (s : Fin 4096) (r : Fin 256) :
    k0_pay4 q ks X K (k0_pay3 q ks X K) (ix2 s r)
      = Ideal.exp2 (k0_pay2 q ks X K (ix2 s r)
        - ((Finset.univ.fold max ⊥ fun s => k0_pay2 q ks X K (ix2 s r)) - ((8 : ℝ) : EReal))) := by
  rw [stored_eq]
  unfold k0_pay4
  generalize k0_pay2 q ks X K = U
  rw [powers_apply, colmax_apply, exp2_def, Consts.ofBits_8]

/-- The weights of a block. -/
theorem weights_apply (q ks : Elt Ideal .f32) (X : Vec Ideal S1x256x128 .fp8e4m3) (K : Vec Ideal S1x4096x128 .fp8e4m3)
    (s : Fin 4096) (r : Fin 256) :
    k0_pay4 q ks X K (k0_pay3 q ks X K) (ix2 s r)
      = kweight (fun s => ∑ e : Fin 128, K (ix3 0 s e) * X (ix3 0 r e)) (q * ks * Ideal.ofBits .f32 0x3DB504F3#32) s := by
  rw [powers_eq]
  simp only [scores_apply, kweight]

/-- The sum of a column of a block of weights. -/
theorem colsum_apply (P : FVec Ideal S4096x256 .f32) (r : Fin 256) :
    multiReduction .add [0] S256 P 0x00000000#32 reduces_S4096x256_S256 (.inl rfl) rfl (ix1 r) = ∑ s, P (ix2 s r) := by
  pointwise

/-- The denominators of a block: the columns' sums over 256. -/
theorem denom_apply (q ks : Elt Ideal .f32) (X : Vec Ideal S1x256x128 .fp8e4m3) (K : Vec Ideal S1x4096x128 .fp8e4m3)
    (P : FVec Ideal S4096x256 .f32) (hP : k0_pay4 q ks X K (k0_pay3 q ks X K) = P) (r : Fin 256) :
    k0_pay5 q ks X K (k0_pay3 q ks X K) (ix2 0 r) = (∑ s, P (ix2 s r)) * ((1 / 256 : ℝ) : EReal) := by
  unfold k0_pay5
  rw [hP, ← colsum_apply]
  generalize multiReduction .add [0] S256 P _ _ _ _ = M
  pointwise
  simp only [Consts.ofBits_inv256]

/-- One head of a block at query row `r` and entry `d`: the attention of the row's raw scores. -/
theorem head_apply (q ks vs : Elt Ideal .f32) (X : Vec Ideal S1x256x128 .fp8e4m3) (K : Vec Ideal S1x4096x128 .fp8e4m3)
    (V : Vec Ideal S1x128x4096 .fp8e4m3) (z : Fin 1) (r : Fin 256) (d : Fin 128) :
    head q ks vs X K V (ix3 z r d)
      = attend (fun s => ∑ e : Fin 128, K (ix3 0 s e) * X (ix3 0 r e)) (q * ks * Ideal.ofBits .f32 0x3DB504F3#32) vs
          fun s => V (ix3 0 d s) := by
  rw [← kattend_eq]
  pointwise [head, k0_pay8, k0_pay6, k0_pay7]
  simp only [denom_apply q ks X K _ rfl, weights_apply, Consts.ofBits_inv256, Consts.ofBits_448, Consts.ofBits_neg448, kattend, code]

end Cert.KernelIdeal.Head

end
-- ==== Proof.Spec.lean ====
/- What both programs compute, as one function of the six argument arrays: the attention of 32 query heads over eight
   key/value heads, read at an index. -/
module

public import proofs.«01_k».proof.Proof.Softmax
public import Idealize.ShloMosaic.Lib.Pointwise

@[expose] public section

noncomputable section

namespace Cert.Spec

open Idealize.ShloMosaic Cert.Softmax

/-- The raw score of key position `s` against query row `t`, for query head `q` (of 32, four to a key/value head):
    the product of the key's and the query's 128 entries. -/
def score (x : (⟨3, ![8, 4096, 4096]⟩ : Shape).Idx → EReal) (k : (⟨3, ![8, 4096, 1024]⟩ : Shape).Idx → EReal)
    (b : Fin 8) (t : Fin 4096) (q : Fin 32) (s : Fin 4096) : EReal :=
  ∑ e : Fin 128, k (ix3 b s ⟨q.val / 4 * 128 + e.val, by omega⟩) * x (ix3 b t ⟨q.val * 128 + e.val, by omega⟩)

/-- The scale of query head `q`'s scores: its query scale, its key scale and 1/√128 as rounded. -/
def scale (qs : (⟨1, ![32]⟩ : Shape).Idx → EReal) (ks : (⟨1, ![8]⟩ : Shape).Idx → EReal) (q : Fin 32) : EReal :=
  qs (ix1 q) * ks (ix1 ⟨q.val / 4, by omega⟩) * Ideal.ofBits .f32 0x3DB504F3#32

/-- The attention's result for query head `q` at entry `d` of the head. -/
def result (x : (⟨3, ![8, 4096, 4096]⟩ : Shape).Idx → EReal) (qs : (⟨1, ![32]⟩ : Shape).Idx → EReal)
    (k : (⟨3, ![8, 4096, 1024]⟩ : Shape).Idx → EReal) (ks : (⟨1, ![8]⟩ : Shape).Idx → EReal)
    (v : (⟨3, ![8, 4096, 1024]⟩ : Shape).Idx → EReal) (vs : (⟨1, ![8]⟩ : Shape).Idx → EReal)
    (b : Fin 8) (t : Fin 4096) (q : Fin 32) (d : Fin 128) : EReal :=
  attend (score x k b t q) (scale qs ks q) (vs (ix1 ⟨q.val / 4, by omega⟩))
    fun s => v (ix3 b s ⟨q.val / 4 * 128 + d.val, by omega⟩)

/-- The whole result array. -/
def array (x : (⟨3, ![8, 4096, 4096]⟩ : Shape).Idx → EReal) (qs : (⟨1, ![32]⟩ : Shape).Idx → EReal)
    (k : (⟨3, ![8, 4096, 1024]⟩ : Shape).Idx → EReal) (ks : (⟨1, ![8]⟩ : Shape).Idx → EReal)
    (v : (⟨3, ![8, 4096, 1024]⟩ : Shape).Idx → EReal) (vs : (⟨1, ![8]⟩ : Shape).Idx → EReal)
    (y : (⟨3, ![8, 4096, 4096]⟩ : Shape).Idx) : EReal :=
  result x qs k ks v vs (y 0) (y 1) ⟨(y 2).val / 128, Nat.div_lt_of_lt_mul (y 2).isLt⟩ ⟨(y 2).val % 128, Nat.mod_lt _ (by norm_num)⟩

/-- The array at an index by its coordinates. -/
theorem array_apply (x : (⟨3, ![8, 4096, 4096]⟩ : Shape).Idx → EReal) (qs : (⟨1, ![32]⟩ : Shape).Idx → EReal)
    (k : (⟨3, ![8, 4096, 1024]⟩ : Shape).Idx → EReal) (ks : (⟨1, ![8]⟩ : Shape).Idx → EReal)
    (v : (⟨3, ![8, 4096, 1024]⟩ : Shape).Idx → EReal) (vs : (⟨1, ![8]⟩ : Shape).Idx → EReal) (b : Fin 8) (t y : Fin 4096) :
    array x qs k ks v vs (ix3 b t y)
      = result x qs k ks v vs b t ⟨y.val / 128, by omega⟩ ⟨y.val % 128, by omega⟩ := rfl

end Cert.Spec

end
-- ==== Proof.Loads.lean ====
/- What a grid point finds in its staging buffers, as elements of the argument arrays.

   A grid point has three coordinates: the batch, the key head, and the tile of 256 rows. -/
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Loads

open Idealize.ShloMosaic Idealize.ShloMosaic.TcCoe Idealize.SL.Sem Cert.KernelIdeal Cert.KernelIdeal.Gen

variable (m : (ℓ : Loc nD τ sig) → Buf (Elt Ideal) ℓ)

/-- The batch of grid point `t`. -/
def batch (t : Fin cfg0.N) : Fin 8 := grid0.coords t 0
/-- The key head of grid point `t`. -/
def kvHead (t : Fin cfg0.N) : Fin 8 := grid0.coords t 1
/-- The row tile of grid point `t`. -/
def tile (t : Fin cfg0.N) : Fin 16 := grid0.coords t 2

/-- The query heads' scales are staged whole. -/
theorem index_0 : ∀ t : Fin cfg0.N, win0_0.index t = ![0] := by decide +kernel
/-- The key heads' scales are staged whole. -/
theorem index_1 : ∀ t : Fin cfg0.N, win0_1.index t = ![0] := by decide +kernel
/-- The value heads' scales are staged whole. -/
theorem index_2 : ∀ t : Fin cfg0.N, win0_2.index t = ![0] := by decide +kernel
/-- The queries' block: batch, row tile, four query heads of one key head. -/
theorem index_3 : ∀ t : Fin cfg0.N, win0_3.index t = ![(batch t).val, (tile t).val, (kvHead t).val] := by
  decide +kernel
/-- The keys' block: one key head of one batch. -/
theorem index_4 : ∀ t : Fin cfg0.N, win0_4.index t = ![(batch t).val, 0, (kvHead t).val] := by decide +kernel
/-- The transposed values' block: one value head of one batch. -/
theorem index_5 : ∀ t : Fin cfg0.N, win0_5.index t = ![(batch t).val, (kvHead t).val, 0] := by decide +kernel
/-- The result's block: batch, row tile, four query heads of one key head. -/
theorem index_6 : ∀ t : Fin cfg0.N, win0_6.index t = ![(batch t).val, (tile t).val, (kvHead t).val] := by
  decide +kernel

/-- The query heads' scales, as staged. -/
theorem qScale_apply (c : Dev nD) (t : Fin cfg0.N) (q : Fin 32) :
    iblk m c 0 t (ix1 q) = m ((c : Thread nD τ).loc main_arg1) (ix1 q) := by
  rw [← V_main_arg1 m c]; blk_ext [iblk, index_0]

/-- The key heads' scales, as staged. -/
theorem kScale_apply (c : Dev nD) (t : Fin cfg0.N) (h : Fin 8) :
    iblk m c 1 t (ix1 h) = m ((c : Thread nD τ).loc main_arg3) (ix1 h) := by
  rw [← V_main_arg3 m c]; blk_ext [iblk, index_1]

/-- The value heads' scales, as staged. -/
theorem vScale_apply (c : Dev nD) (t : Fin cfg0.N) (h : Fin 8) :
    iblk m c 2 t (ix1 h) = m ((c : Thread nD τ).loc main_arg5) (ix1 h) := by
  rw [← V_main_arg5 m c]; blk_ext [iblk, index_2]

/-- The queries' block. -/
theorem x_apply (c : Dev nD) (t : Fin cfg0.N) (r : Fin 256) (e : Fin 512) :
    iblk m c 3 t (ix3 0 r e) = m ((c : Thread nD τ).loc main_arg0)
      (ix3 (batch t) ⟨(tile t).val * 256 + r.val, by omega⟩ ⟨(kvHead t).val * 512 + e.val, by omega⟩) := by
  rw [← V_main_arg0 m c]; blk_ext [iblk, index_3]

/-- The keys' block. -/
theorem k_apply (c : Dev nD) (t : Fin cfg0.N) (s : Fin 4096) (e : Fin 128) :
    iblk m c 4 t (ix3 0 s e) = m ((c : Thread nD τ).loc main_arg2)
      (ix3 (batch t) s ⟨(kvHead t).val * 128 + e.val, by omega⟩) := by
  rw [← V_main_arg2 m c]; blk_ext [iblk, index_4]

/-- The transposed values' block, in terms of the values as given. -/
theorem v_apply (c : Dev nD) (t : Fin cfg0.N) (d : Fin 128) (s : Fin 4096) :
    iblk m c 5 t (ix3 0 d s) = m ((c : Thread nD τ).loc main_arg4)
      (ix3 (batch t) s ⟨(kvHead t).val * 128 + d.val, by omega⟩) := by
  blk_simp [iblk, index_5]
  entry_read
  pointwise
  blk_ext [index_5]

end Cert.KernelIdeal.Loads

end
-- ==== Proof.Block.lean ====
/- What one grid point leaves in the output's staging buffer: four query heads side by side. -/
module

public import proofs.«01_k».proof.Proof.Gen.KernelIdeal.Value
public import proofs.«01_k».proof.Proof.Head
public import proofs.«01_k».proof.Proof.Spec
public import proofs.«01_k».proof.Proof.Loads
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Block

open Idealize.ShloMosaic Idealize.ShloMosaic.TcCoe Idealize.SL.Sem Cert.KernelIdeal Cert.KernelIdeal.Gen Cert.KernelIdeal.Head
open Cert.KernelIdeal.Loads

variable (m : (ℓ : Loc nD τ sig) → Buf (Elt Ideal) ℓ)

/-- The tensor that reference `b` of the launch is bound to, for the six arguments. -/
abbrev arg (c : Dev nD) (b : Ref sig .tc) : Buf (Elt Ideal) ((c : Thread nD τ).loc b) := m ((c : Thread nD τ).loc b)

/-- The query head that position `g` of a grid point's four is. -/
def qHead (t : Fin cfg0.N) (g : Fin 4) : Fin 32 := ⟨4 * (kvHead t).val + g.val, by omega⟩

/-- The row of the array that row `r` of a grid point's tile is. -/
def row (t : Fin cfg0.N) (r : Fin 256) : Fin 4096 := ⟨(tile t).val * 256 + r.val, by omega⟩

/-- A query head's key head is the grid point's. -/
theorem qHead_div (t : Fin cfg0.N) (g : Fin 4) : (qHead t g).val / 4 = (kvHead t).val := by
  simp only [qHead]; omega

/-- A load of one element of a vector, at an offset known to be `p`. -/
theorem ld_scalar {n : Nat} (X : (⟨1, ![n]⟩ : Shape).Idx → Elt Ideal .f32) (off : Fin 1 → Nat) (p : Fin n)
    (hp : off = ![p.val]) (inb) (j) : View.ld X (Rect.unit off ![1] inb) j = X (ix1 p) := by
  subst hp
  refine View.ld_unit_apply_of _ _ _ _ _ (ix1 p) fun a => ?_
  have hj : (j a).val = 0 := by fin_cases a; exact Nat.lt_one_iff.mp (j 0).isLt
  rw [hj]
  fin_cases a; rfl

/-- The scalar load of a query head's scale. -/
theorem ld_qScale (c : Dev nD) (t : Fin cfg0.N) (g : Fin 4) (inb) (j) :
    View.ld (iblk m c 0 t) (Rect.unit (k0_off1 (grid0.coords t) (BitVec.ofNat 32 g.val)) ![1] inb) j
      = arg m c main_arg1 (ix1 (qHead t g)) :=
  (ld_scalar (iblk m c 0 t) _ (qHead t g) (k0_off1_eq _ g) inb j).trans (qScale_apply m c t _)

/-- The scalar load of a key head's scale. -/
theorem ld_kScale (c : Dev nD) (t : Fin cfg0.N) (inb) (j) :
    View.ld (iblk m c 1 t) (Rect.unit (k0_off2 (grid0.coords t)) ![1] inb) j
      = arg m c main_arg3 (ix1 (kvHead t)) :=
  (ld_scalar (iblk m c 1 t) _ (kvHead t) (k0_off2_eq _) inb j).trans (kScale_apply m c t _)

/-- The scalar load of a value head's scale. -/
theorem ld_vScale (c : Dev nD) (t : Fin cfg0.N) (inb) (j) :
    View.ld (iblk m c 2 t) (Rect.unit (k0_off2 (grid0.coords t)) ![1] inb) j
      = arg m c main_arg5 (ix1 (kvHead t)) :=
  (ld_scalar (iblk m c 2 t) _ (kvHead t) (k0_off2_eq _) inb j).trans (vScale_apply m c t _)

/-- The load of one query head's columns from the staged queries. -/
theorem ld_x (c : Dev nD) (t : Fin cfg0.N) (g : Fin 4) (o : Nat) (ho : o = 128 * g.val) (inb) (r : Fin 256) (e : Fin 128) :
    View.ld (iblk m c 3 t) (Rect.unit ![0, 0, o] ![1, 256, 128] inb) (ix3 0 r e)
      = arg m c main_arg0 (ix3 (batch t) (row t r) ⟨(qHead t g).val * 128 + e.val, by omega⟩) := by
  rw [View.ld_unit_apply_of _ _ _ _ _ (ix3 0 r ⟨128 * g.val + e.val, by omega⟩) ?_]
  · refine (x_apply m c t r _).trans (congrArg (arg m c main_arg0) ?_)
    blk_ext [row, qHead]
  · intro a
    subst ho
    fin_cases a <;> simp

/-- One query head of one grid point is the specification's head: the loads and the staged blocks of the kernel read
    the argument arrays at the head's own columns. -/
theorem head_result (c : Dev nD) (t : Fin cfg0.N) (g : Fin 4) (o : Nat) (ho : o = 128 * g.val) (inbq) (inbk) (inbv) (inbx)
    (jq) (jk) (jv) (r : Fin 256) (d : Fin 128) :
    head (View.ld (iblk m c 0 t) (Rect.unit (k0_off1 (grid0.coords t) (BitVec.ofNat 32 g.val)) ![1] inbq) jq)
        (View.ld (iblk m c 1 t) (Rect.unit (k0_off2 (grid0.coords t)) ![1] inbk) jk)
        (View.ld (iblk m c 2 t) (Rect.unit (k0_off2 (grid0.coords t)) ![1] inbv) jv)
        (View.ld (iblk m c 3 t) (Rect.unit ![0, 0, o] ![1, 256, 128] inbx)) (iblk m c 4 t) (iblk m c 5 t) (ix3 0 r d)
      = Spec.result (arg m c main_arg0) (arg m c main_arg1) (arg m c main_arg2) (arg m c main_arg3) (arg m c main_arg4)
          (arg m c main_arg5) (batch t) (row t r) (qHead t g) d := by
  have hdiv := qHead_div t g
  rw [head_apply, ld_qScale, ld_kScale, ld_vScale]
  unfold Spec.result Spec.score Spec.scale
  simp only [ld_x m c t g o ho, k_apply, v_apply, hdiv]

/-- Where column `d` of head `g` stands in the four heads' 512 columns, the specification's array splits the column into
    that head and that coordinate. -/
theorem array_at (A B C D E G) (t : Fin cfg0.N) (g : Fin 4) (o : Nat) (ho : o = 128 * g.val) (r r' : Fin 256) (d : Fin 128)
    (p : Fin 512) (hr : r'.val = r.val) (hp : p.val = o + d.val) :
    Spec.result A B C D E G (batch t) (row t r) (qHead t g) d
      = Spec.array A B C D E G (ix3 (batch t) (row t r') ⟨(kvHead t).val * 512 + p.val, by omega⟩) := by
  obtain rfl : r' = r := Fin.ext hr
  rw [Spec.array_apply]
  congr 1 <;> (apply Fin.ext; simp only [qHead]; omega)

/-- What a grid point leaves in the output's staging buffer is the specification's array at the place of the block. -/
theorem out_apply (c : Dev nD) (t : Fin cfg0.N) (y : S1x256x512.Idx) :
    outsAt0 m c t y = Spec.array (arg m c main_arg0) (arg m c main_arg1) (arg m c main_arg2) (arg m c main_arg3)
      (arg m c main_arg4) (arg m c main_arg5)
      (ix3 (batch t) (row t (y 1)) ⟨(kvHead t).val * 512 + (y 2).val, by
        have : (y 2).val < 512 := (y 2).isLt
        omega⟩) := by
  unfold outsAt0
  frame_open
  simp (disch := decide) only [↓ View.readCov_skip, ↓ View.readCov_cons_toLoadRect, ↓ View.readCov_fill]
  frame_out
  simp only [head0_eq, head1_eq, head2_eq, head3_eq]
  canon_tiles x h
  all_goals idx_vars x
  all_goals obtain rfl : x0 = 0 := Subsingleton.elim _ _
  · exact (head_result m c t 3 384 rfl _ _ _ _ _ _ _ x1 x2).trans (array_at _ _ _ _ _ _ t 3 384 rfl x1 (y 1) x2 (y 2) h1 h2)
  · exact (head_result m c t 2 256 rfl _ _ _ _ _ _ _ x1 x2).trans (array_at _ _ _ _ _ _ t 2 256 rfl x1 (y 1) x2 (y 2) h1 h2)
  · exact (head_result m c t 1 128 rfl _ _ _ _ _ _ _ x1 x2).trans (array_at _ _ _ _ _ _ t 1 128 rfl x1 (y 1) x2 (y 2) h1 h2)
  · exact (head_result m c t 0 0 rfl _ _ _ _ _ _ _ x1 x2).trans
      (array_at _ _ _ _ _ _ t 0 0 rfl x1 (y 1) x2 (y 2) h1 (h2.trans (Nat.zero_add _).symm))

end Cert.KernelIdeal.Block

end
-- ==== Proof.Array.lean ====
/- The kernel's whole output array after the run: the blocks of all grid points cover it, and each block is the
   specification's array at its place. -/
module

public import proofs.«01_k».proof.Proof.Block
public import Idealize.ShloMosaic.Lib.Pipeline.Covers

@[expose] public section

set_option maxRecDepth 16384

noncomputable section

namespace Cert.KernelIdeal.Whole

open Idealize.ShloMosaic Idealize.ShloMosaic.TcCoe Idealize.SL.Sem Cert.KernelIdeal Cert.KernelIdeal.Gen
open Cert.KernelIdeal.Loads Cert.KernelIdeal.Block

variable (m : (ℓ : Loc nD τ sig) → Buf (Elt Ideal) ℓ)

/-- The result's block index as a function of the grid coordinates. -/
theorem transform_6 (i : grid0.Coords) : cc0_transform_6 i = ![(i 0).val, (i 2).val, (i 1).val] := by
  have h0 : (i 0).val < 8 := (i 0).isLt
  have h1 : (i 1).val < 8 := (i 1).isLt
  have h2 : (i 2).val < 16 := (i 2).isLt
  simp only [cc0_transform_6, BitVec.toNat_ofNat]
  rw [Nat.mod_eq_of_lt (by omega), Nat.mod_eq_of_lt (by omega), Nat.mod_eq_of_lt (by omega)]

/-- The grid's three coordinates, from three numbers. -/
def coords (a : Fin 8) (b : Fin 8) (d : Fin 16) : grid0.Coords
  | 0 => a
  | 1 => b
  | 2 => d

/-- The blocks written back cover the output. -/
theorem covers_6 : (cfg0.win 6).Covers :=
  (cfg0.win 6).covers_of_indexMap_surj rfl (by decide) fun β =>
    ⟨coords (β 0) (β 2) (β 1), fun a => by
      refine (congrFun (transform_6 _) a).trans ?_
      fin_cases a <;> rfl⟩

/-- The output after the run is the specification's array. -/
theorem arrAt_eq (c : Dev nD) : (dats m 0 c).arrAt 6 cfg0.N
    = Spec.array (arg m c main_arg0) (arg m c main_arg1) (arg m c main_arg2) (arg m c main_arg3)
      (arg m c main_arg4) (arg m c main_arg5) := by
  refine (dats m 0 c).arrAt_eq_of_covers 6 _ covers_6 fun t hf y => ?_
  blk_simp
  rw [after0_6]
  refine (out_apply m c t _).trans ?_
  blk_ext [index_6, row]

end Cert.KernelIdeal.Whole

end
-- ==== Proof.RefValue.lean ====
/- What the reference computes: its result array at batch `b`, query row `t` and column `y` is `attend` of the row's raw
   scores, the score scale and the values of the column's key/value head. -/
module

public import proofs.«01_k».proof.Proof.Gen.ReferenceIdeal.Value
public import proofs.«01_k».proof.Proof.Consts
public import proofs.«01_k».proof.Proof.Spec
public import Idealize.ShloMosaic.Lib.Pointwise

@[expose] public section

set_option maxRecDepth 16384

noncomputable section

namespace Cert.ReferenceIdeal.RefValue

open Idealize.ShloMosaic Cert.ReferenceIdeal Cert.ReferenceIdeal.Gen Cert.ReferenceIdeal.Value Cert.Softmax

/-- The reference's unnormalised weights, at query head `q`. -/
theorem weights_apply (x : Vec Ideal S8x4096x4096 .fp8e4m3) (k : Vec Ideal S8x4096x1024 .fp8e4m3) (qs : Vec Ideal S32 .f32)
    (ks : Vec Ideal S8 .f32) (b : Fin 8) (q : Fin 32) (t s : Fin 4096) :
    k0_pay2 x k qs ks (ix5 b (⟨q.val / 4, by omega⟩ : Fin 8) (⟨q.val % 4, by omega⟩ : Fin 4) t s)
      = weight (Spec.score x k b t q) (Spec.scale qs ks q) s := by
  have e1 : q.val / 4 * 4 + q.val % 4 = q.val := by omega
  have e2 : q.val / 4 * 512 + q.val % 4 * 128 = q.val * 128 := by omega
  pointwise [k0_pay2]
  simp only [weight, Spec.score, Spec.scale, Consts.ofBits_neg_inf, e1, e2]

/-- The reference's result array is `Spec.array` of its arguments. -/
theorem value_eq (x : Vec Ideal S8x4096x4096 .fp8e4m3) (qs : Vec Ideal S32 .f32) (k : Vec Ideal S8x4096x1024 .fp8e4m3)
    (ks : Vec Ideal S8 .f32) (v : Vec Ideal S8x4096x1024 .fp8e4m3) (vs : Vec Ideal S8 .f32) :
    G6 (F := Ideal) x qs k ks v vs = Spec.array x qs k ks v vs := by
  funext y
  idx_vars y
  have e1 : y2.val / 512 = y2.val / 128 / 4 := by omega
  pointwise [G6, k0_pay1, k0_pay3, k0_pay4, k0_pay5]
  simp only [weights_apply x k qs ks y0 ⟨y2.val / 128, by omega⟩, Spec.array_apply, Spec.result, attend, code, Consts.ofBits_256, Consts.ofBits_inv256,
    Consts.ofBits_448, Consts.ofBits_neg448, e1]

end Cert.ReferenceIdeal.RefValue

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Frame
public import proofs.«01_k».proof.Proof.Gen.ReferenceIdeal.Value
public import proofs.«01_k».proof.Proof.Array
public import proofs.«01_k».proof.Proof.RefValue
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel runs without fault, keeps its arguments and ends with every counter at zero. -/
theorem frame_kernel : quiescent_Kernel (hKernel := Cert.Kernel.Gen.facts) :=
  fun m g _ => Cert.Kernel.Gen.frame m g

/-- The idealized kernel runs without fault, keeps its arguments and ends with every counter at zero. -/
theorem frame_kernelIdeal : quiescent_KernelIdeal (hKernelIdeal := Cert.KernelIdeal.Gen.facts) :=
  fun m g _ => Cert.KernelIdeal.Gen.frame m g

/-- The reference runs without fault, keeps its arguments and ends with every counter at zero. -/
theorem frame_referenceIdeal : quiescent_ReferenceIdeal (hReferenceIdeal := Cert.ReferenceIdeal.Gen.facts) :=
  fun m g _ => Cert.ReferenceIdeal.Gen.frame m g

/-- The constant the kernel writes for log2 e is 1/log 2 once idealized, and the float as written is that number rounded. -/
theorem preserves : preserves_Kernel_KernelIdeal :=
  IdealRules.named_const.statement Cert.KernelIdeal.κ "log2_e" .f32 0x3FB8AA3B#32 (((Real.log 2)⁻¹ : ℝ) : EReal) rfl

/-- The idealized kernel and the reference end with the same result: both with `Spec.array` of the arguments. -/
theorem algebraic : algebraic_KernelIdeal_ReferenceIdeal (hKernelIdeal := Cert.KernelIdeal.Gen.facts)
    (hReferenceIdeal := Cert.ReferenceIdeal.Gen.facts) := by
  intro m g m' g' _ hagree
  refine ⟨fun c => (Cert.KernelIdeal.Gen.dats m 0 c).arrAt 6 Cert.KernelIdeal.cfg0.N,
    Cert.KernelIdeal.Value.run_blocks (F := Ideal) m g, ?_⟩
  refine (θ_run Cert.ReferenceIdeal.defs _ _).mono (fun _ h c => ⟨(h c).1.trans ?_, (h c).2⟩)
    (Cert.ReferenceIdeal.Value.run (F := Ideal) m' g')
  obtain ⟨h0, h1, h2, h3, h4, h5⟩ := hagree c
  rw [h0, h1, h2, h3, h4, h5]
  exact (Cert.ReferenceIdeal.RefValue.value_eq _ _ _ _ _ _).trans (Cert.KernelIdeal.Whole.arrAt_eq m c).symm

/-- Everything the certificate claims. -/
theorem claim : Cert.Claim :=
  ⟨Cert.Kernel.Gen.facts, Cert.KernelIdeal.Gen.facts, Cert.ReferenceIdeal.Gen.facts,
    frame_kernel, frame_kernelIdeal, frame_referenceIdeal, preserves, algebraic⟩

end Cert.Proof

end
